-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x4096x128 : Shape := ⟨3, ![32, 4096, 128]⟩
abbrev S_ : Shape := ⟨0, ![]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel

variable [Facts]

def fn {F : FTy → Type} [FloatOps F] (main_arg0 : FVec F S32x4096x128 .f32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  main_v3
-- ==== Kernel.lean ====
abbrev S32x4096x128 : Shape := ⟨3, ![32, 4096, 128]⟩
abbrev S2x4096x128 : Shape := ⟨3, ![2, 4096, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x128, .f32⟩
  | .hbm, ⟨1, _⟩ => ⟨S32x4096x128, .f32⟩
  | .hbm, ⟨2, _⟩ => ⟨S32x4096x128, .f32⟩
  | .local _ .vmem, ⟨0, _⟩ => ⟨S2x4096x128, .f32⟩
  | .local _ .vmem, ⟨1, _⟩ => ⟨S2x4096x128, .f32⟩
  | .local _ .vmem, ⟨2, _⟩ => ⟨S2x4096x128, .f32⟩
  | .local _ .vmem, ⟨3, _⟩ => ⟨S2x4096x128, .f32⟩
  | .local _ .vmem, ⟨4, _⟩ => ⟨S2x4096x128, .f32⟩
  | .local _ .vmem, ⟨5, _⟩ => ⟨S2x4096x128, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x4096x128 : Shape := ⟨3, ![32, 4096, 128]⟩
abbrev S2049x4096 : Shape := ⟨2, ![2049, 4096]⟩
abbrev S_ : Shape := ⟨0, ![]⟩
abbrev S32x128x2049 : Shape := ⟨3, ![32, 128, 2049]⟩
abbrev S32x2049x128 : Shape := ⟨3, ![32, 2049, 128]⟩
abbrev S1 : Shape := ⟨1, ![1]⟩
abbrev S2049x128 : Shape := ⟨2, ![2049, 128]⟩
abbrev S32x128x5 : Shape := ⟨3, ![32, 128, 5]⟩
abbrev S2049 : Shape := ⟨1, ![2049]⟩
abbrev S1x2049x1 : Shape := ⟨3, ![1, 2049, 1]⟩
abbrev S32x128x4096 : Shape := ⟨3, ![32, 128, 4096]⟩

abbrev nBuf : Space → Nat
  | .hbm => 84
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S2049x4096, .i32⟩
  | .hbm, ⟨2, _⟩ => ⟨S2049x4096, .i32⟩
  | .hbm, ⟨3, _⟩ => ⟨S_, .f32⟩
  | .hbm, ⟨4, _⟩ => ⟨S_, .f32⟩
  | .hbm, ⟨5, _⟩ => ⟨S2049x4096, .i32⟩
  | .hbm, ⟨6, _⟩ => ⟨S_, .i32⟩
  | .hbm, ⟨7, _⟩ => ⟨S2049x4096, .i32⟩
  | .hbm, ⟨8, _⟩ => ⟨S2049x4096, .i32⟩
  | .hbm, ⟨9, _⟩ => ⟨S2049x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2049x4096, .f32⟩
  | .hbm, ⟨15, _⟩ => ⟨S2049x4096, .f32⟩
  | .hbm, ⟨16, _⟩ => ⟨S2049x4096, .f32⟩
  | .hbm, ⟨17, _⟩ => ⟨S2049x4096, .f32⟩
  | .hbm, ⟨18, _⟩ => ⟨S32x128x2049, .f32⟩
  | .hbm, ⟨19, _⟩ => ⟨S32x2049x128, .f32⟩
  | .hbm, ⟨20, _⟩ => ⟨S32x128x2049, .f32⟩
  | .hbm, ⟨21, _⟩ => ⟨S32x2049x128, .f32⟩
  | .hbm, ⟨22, _⟩ => ⟨S32x2049x128, .f32⟩
  | .hbm, ⟨23, _⟩ => ⟨S32x2049x128, .f32⟩
  | .hbm, ⟨24, _⟩ => ⟨S32x2049x128, .f32⟩
  | .hbm, ⟨25, _⟩ => ⟨S32x2049x128, .f32⟩
  | .hbm, ⟨26, _⟩ => ⟨S32x2049x128, .f32⟩
  | .hbm, ⟨27, _⟩ => ⟨S_, .i32⟩
  | .hbm, ⟨28, _⟩ => ⟨S1, .i32⟩
  | .hbm, ⟨29, _⟩ => ⟨S_, .f32⟩
  | .hbm, ⟨30, _⟩ => ⟨S2049x128, .f32⟩
  | .hbm, ⟨31, _⟩ => ⟨S32x2049x128, .f32⟩
  | .hbm, ⟨32, _⟩ => ⟨S32x128x2049, .f32⟩
  | .hbm, ⟨33, _⟩ => ⟨S32x128x5, .f32⟩
  | .hbm, ⟨34, _⟩ => ⟨S32x128x5, .i32⟩
  | .hbm, ⟨35, _⟩ => ⟨S_, .f32⟩
  | .hbm, ⟨36, _⟩ => ⟨S_, .f32⟩
  | .hbm, ⟨37, _⟩ => ⟨S32x2049x128, .f32⟩
  | .hbm, ⟨38, _⟩ => ⟨S32x2049x128, .i1⟩
  | .hbm, ⟨39, _⟩ => ⟨S_, .f32⟩
  | .hbm, ⟨40, _⟩ => ⟨S_, .f32⟩
  | .hbm, ⟨41, _⟩ => ⟨S32x2049x128, .f32⟩
  | .hbm, ⟨42, _⟩ => ⟨S32x2049x128, .f32⟩
  | .hbm, ⟨43, _⟩ => ⟨S32x2049x128, .f32⟩
  | .hbm, ⟨44, _⟩ => ⟨S32x2049x128, .i1⟩
  | .hbm, ⟨45, _⟩ => ⟨S_, .f32⟩
  | .hbm, ⟨46, _⟩ => ⟨S_, .f32⟩
  | .hbm, ⟨47, _⟩ => ⟨S32x2049x128, .f32⟩
  | .hbm, ⟨48, _⟩ => ⟨S32x2049x128, .f32⟩
  | .hbm, ⟨49, _⟩ => ⟨S2049, .i32⟩
  | .hbm, ⟨50, _⟩ => ⟨S_, .i32⟩
  | .hbm, ⟨51, _⟩ => ⟨S2049, .i32⟩
  | .hbm, ⟨52, _⟩ => ⟨S2049, .i1⟩
  | .hbm, ⟨53, _⟩ => ⟨S_, .i32⟩
  | .hbm, ⟨54, _⟩ => ⟨S2049, .i32⟩
  | .hbm, ⟨55, _⟩ => ⟨S2049, .i1⟩
  | .hbm, ⟨56, _⟩ => ⟨S2049, .i1⟩
  | .hbm, ⟨57, _⟩ => ⟨S_, .f32⟩
  | .hbm, ⟨58, _⟩ => ⟨S_, .f32⟩
  | .hbm, ⟨59, _⟩ => ⟨S2049, .f32⟩
  | .hbm, ⟨60, _⟩ => ⟨S2049, .f32⟩
  | .hbm, ⟨61, _⟩ => ⟨S2049, .f32⟩
  | .hbm, ⟨62, _⟩ => ⟨S1x2049x1, .f32⟩
  | .hbm, ⟨63, _⟩ => ⟨S_, .f32⟩
  | .hbm, ⟨64, _⟩ => ⟨S_, .f32⟩
  | .hbm, ⟨65, _⟩ => ⟨S2049, .f32⟩
  | .hbm, ⟨66, _⟩ => ⟨S2049, .f32⟩
  | .hbm, ⟨67, _⟩ => ⟨S2049, .f32⟩
  | .hbm, ⟨68, _⟩ => ⟨S1x2049x1, .f32⟩
  | .hbm, ⟨69, _⟩ => ⟨S1x2049x1, .f32⟩
  | .hbm, ⟨70, _⟩ => ⟨S32x2049x128, .f32⟩
  | .hbm, ⟨71, _⟩ => ⟨S32x2049x128, .f32⟩
  | .hbm, ⟨72, _⟩ => ⟨S32x128x4096, .f32⟩
  | .hbm, ⟨73, _⟩ => ⟨S32x4096x128, .f32⟩
  | .hbm, ⟨74, _⟩ => ⟨S1x2049x1, .f32⟩
  | .hbm, ⟨75, _⟩ => ⟨S32x2049x128, .f32⟩
  | .hbm, ⟨76, _⟩ => ⟨S32x2049x128, .f32⟩
  | .hbm, ⟨77, _⟩ => ⟨S32x128x4096, .f32⟩
  | .hbm, ⟨78, _⟩ => ⟨S32x4096x128, .f32⟩
  | .hbm, ⟨79, _⟩ => ⟨S32x4096x128, .f32⟩
  | .hbm, ⟨80, _⟩ => ⟨S_, .f32⟩
  | .hbm, ⟨81, _⟩ => ⟨S32x4096x128, .f32⟩
  | .hbm, ⟨82, _⟩ => ⟨S32x4096x128, .f32⟩
  | .hbm, ⟨83, _⟩ => ⟨S32x4096x128, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_values : Ref sig .tc := ⟨.hbm, 33, rfl⟩
abbrev main_indices : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.KernelValue.lean ====
/-
  What the kernel leaves in its two result arrays, index by index, for any input.

  The grid has sixteen points; point `t` handles the batch elements `2 t` and `2 t + 1` whole. Each block compares the
  batch number of its entries with zero, so the first result is the input everywhere but at batch element 0, where it is
  zero, and the second is the input at batch element 0 and zero elsewhere.
-/
module

public import proofs.«01_k».proof.Proof.Gen.KernelIdeal.Value
public import Idealize.ShloMosaic.Lib.Pipeline.Value

@[expose] public section

noncomputable section

namespace Cert.KernelValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The first result as one function of the input: zero at batch element 0, the input elsewhere. -/
def seasonOf (x : S32x4096x128.Idx → F .f32) : S32x4096x128.Idx → F .f32 :=
  fun i => if (i 0 : ℕ) = 0 then Scalar.ofBits .f32 0x00000000#32 else x i

/-- The second result as one function of the input: the input at batch element 0, zero elsewhere. -/
def trendOf (x : S32x4096x128.Idx → F .f32) : S32x4096x128.Idx → F .f32 :=
  fun i => if (i 0 : ℕ) = 0 then x i else Scalar.ofBits .f32 0x00000000#32

/-- The input array of device `c`. -/
abbrev input (c : Dev nD) : S32x4096x128.Idx → F .f32 := m ((c.tc : Thread nD τ).loc main_arg0)

/-- The offsets of a whole-block access are zero. -/
theorem hz : (![0, 0, 0] : Fin 3 → ℕ) = fun _ => 0 := funext fun a => by fin_cases a <;> rfl

/-- The mask of the block at grid point `g` is set at the entries of batch element 0. -/
theorem mask_apply (g : grid0.Coords) (j : S2x4096x128.Idx) :
    k0_pay2 g j = if (g 0 : ℕ) * 2 + (j 0 : ℕ) = 0 then 1#1 else 0#1 := by
  have hg : (g 0 : ℕ) < 16 := (g 0).isLt
  have hj : (j 0 : ℕ) < 2 := (j 0).isLt
  have e : k0_pay2 g j = IntOp.cmpi .eq (IntOp.addi (iota .tc S2x4096x128 32 [0] iota_S2x4096x128_d0_w32 j)
      (IntOp.muli (BitVec.ofNat 32 (g 0).val) 2#32)) 0#32 := rfl
  have h2 : iota .tc S2x4096x128 32 [0] iota_S2x4096x128_d0_w32 j = BitVec.ofNat 32 (j 0 : ℕ) := by
    simp [iota]
  have h3 : IntOp.addi (BitVec.ofNat 32 (j 0 : ℕ)) (IntOp.muli (BitVec.ofNat 32 (g 0).val) 2#32)
      = BitVec.ofNat 32 ((g 0 : ℕ) * 2 + (j 0 : ℕ)) := by
    apply BitVec.eq_of_toNat_eq
    simp only [IntOp.addi, IntOp.muli, BitVec.toNat_add, BitVec.toNat_mul, BitVec.toNat_ofNat]
    omega
  rw [e, h2, h3]
  unfold IntOp.cmpi
  split_ifs with h
  · rw [h]; rfl
  · have hne : (BitVec.ofNat 32 ((g 0 : ℕ) * 2 + (j 0 : ℕ)) == 0#32) = false := by
      rw [beq_eq_false_iff_ne]
      intro hc
      have := congrArg BitVec.toNat hc
      simp only [BitVec.toNat_ofNat] at this
      omega
    simp only [hne]; rfl

/-- Where the blocks of the first result lie. -/
theorem index1 : ∀ t : Fin grid0.N, win0_1.index t 0 * win0_1.size 0 = t.val * 2 ∧ win0_1.xsize (grid0.coords t) 0 = 2
    ∧ win0_1.index t 1 * win0_1.size 1 = 0 ∧ win0_1.xsize (grid0.coords t) 1 = 4096
    ∧ win0_1.index t 2 * win0_1.size 2 = 0 ∧ win0_1.xsize (grid0.coords t) 2 = 128
    ∧ (grid0.coords t 0).val = t.val := by decide +kernel

/-- Where the blocks of the second result lie. -/
theorem index2 : ∀ t : Fin grid0.N, win0_2.index t 0 * win0_2.size 0 = t.val * 2 ∧ win0_2.xsize (grid0.coords t) 0 = 2
    ∧ win0_2.index t 1 * win0_2.size 1 = 0 ∧ win0_2.xsize (grid0.coords t) 1 = 4096
    ∧ win0_2.index t 2 * win0_2.size 2 = 0 ∧ win0_2.xsize (grid0.coords t) 2 = 128
    ∧ (grid0.coords t 0).val = t.val := by decide +kernel

/-- An entry of the first result is in the block of point `t` when its batch number is `2 t` or `2 t + 1`. -/
theorem mem_blk1 (t : Fin cfg0.N) (i : S32x4096x128.Idx) :
    i ∈ ((cfg0.win 1).blk t).view.set ↔ t.val * 2 ≤ (i 0 : ℕ) ∧ (i 0 : ℕ) < t.val * 2 + 2 := by
  show i ∈ ((View.whole main_v0_0).slice (win0_1.rect t)).set ↔ _
  rw [View.set_slice_whole, Rect.mem_set_unit]
  obtain ⟨e0, s0, e1, s1, e2, s2, -⟩ := index1 t
  have h1 : (i 1 : ℕ) < 4096 := (i 1).isLt
  have h2 : (i 2 : ℕ) < 128 := (i 2).isLt
  refine ⟨fun h => ?_, fun h a => ?_⟩
  · have h0 : win0_1.index t 0 * win0_1.size 0 ≤ (i 0 : ℕ)
        ∧ (i 0 : ℕ) < win0_1.index t 0 * win0_1.size 0 + win0_1.xsize (grid0.coords t) 0 := h 0
    rwa [e0, s0] at h0
  · match a with
    | ⟨0, _⟩ =>
      show win0_1.index t 0 * win0_1.size 0 ≤ (i 0 : ℕ)
        ∧ (i 0 : ℕ) < win0_1.index t 0 * win0_1.size 0 + win0_1.xsize (grid0.coords t) 0
      rw [e0, s0]; exact h
    | ⟨1, _⟩ =>
      show win0_1.index t 1 * win0_1.size 1 ≤ (i 1 : ℕ)
        ∧ (i 1 : ℕ) < win0_1.index t 1 * win0_1.size 1 + win0_1.xsize (grid0.coords t) 1
      rw [e1, s1]; omega
    | ⟨2, _⟩ =>
      show win0_1.index t 2 * win0_1.size 2 ≤ (i 2 : ℕ)
        ∧ (i 2 : ℕ) < win0_1.index t 2 * win0_1.size 2 + win0_1.xsize (grid0.coords t) 2
      rw [e2, s2]; omega

/-- An entry of the second result is in the block of point `t` when its batch number is `2 t` or `2 t + 1`. -/
theorem mem_blk2 (t : Fin cfg0.N) (i : S32x4096x128.Idx) :
    i ∈ ((cfg0.win 2).blk t).view.set ↔ t.val * 2 ≤ (i 0 : ℕ) ∧ (i 0 : ℕ) < t.val * 2 + 2 := by
  show i ∈ ((View.whole main_v0_1).slice (win0_2.rect t)).set ↔ _
  rw [View.set_slice_whole, Rect.mem_set_unit]
  obtain ⟨e0, s0, e1, s1, e2, s2, -⟩ := index2 t
  have h1 : (i 1 : ℕ) < 4096 := (i 1).isLt
  have h2 : (i 2 : ℕ) < 128 := (i 2).isLt
  refine ⟨fun h => ?_, fun h a => ?_⟩
  · have h0 : win0_2.index t 0 * win0_2.size 0 ≤ (i 0 : ℕ)
        ∧ (i 0 : ℕ) < win0_2.index t 0 * win0_2.size 0 + win0_2.xsize (grid0.coords t) 0 := h 0
    rwa [e0, s0] at h0
  · match a with
    | ⟨0, _⟩ =>
      show win0_2.index t 0 * win0_2.size 0 ≤ (i 0 : ℕ)
        ∧ (i 0 : ℕ) < win0_2.index t 0 * win0_2.size 0 + win0_2.xsize (grid0.coords t) 0
      rw [e0, s0]; exact h
    | ⟨1, _⟩ =>
      show win0_2.index t 1 * win0_2.size 1 ≤ (i 1 : ℕ)
        ∧ (i 1 : ℕ) < win0_2.index t 1 * win0_2.size 1 + win0_2.xsize (grid0.coords t) 1
      rw [e1, s1]; omega
    | ⟨2, _⟩ =>
      show win0_2.index t 2 * win0_2.size 2 ≤ (i 2 : ℕ)
        ∧ (i 2 : ℕ) < win0_2.index t 2 * win0_2.size 2 + win0_2.xsize (grid0.coords t) 2
      rw [e2, s2]; omega

/-- Every entry of the first result is in a block that is written back. -/
theorem cover1 (i : S32x4096x128.Idx) : ∃ t : Fin cfg0.N, (cfg0.win 1).flush t = true ∧ i ∈ ((cfg0.win 1).blk t).view.set := by
  have h0 : (i 0 : ℕ) < 32 := (i 0).isLt
  have hN : cfg0.N = 16 := N_0
  refine ⟨⟨(i 0 : ℕ) / 2, by omega⟩, flush0_1 _, ?_⟩
  rw [mem_blk1]
  dsimp only
  omega

/-- Every entry of the second result is in a block that is written back. -/
theorem cover2 (i : S32x4096x128.Idx) : ∃ t : Fin cfg0.N, (cfg0.win 2).flush t = true ∧ i ∈ ((cfg0.win 2).blk t).view.set := by
  have h0 : (i 0 : ℕ) < 32 := (i 0).isLt
  have hN : cfg0.N = 16 := N_0
  refine ⟨⟨(i 0 : ℕ) / 2, by omega⟩, flush0_2 _, ?_⟩
  rw [mem_blk2]
  dsimp only
  omega

/-- The batch number of an entry of the block of point `t` of the first result. -/
theorem batch1 (t : Fin cfg0.N) (j : S2x4096x128.Idx) :
    ((((cfg0.win 1).blk t).view.emb j : S32x4096x128.Idx) 0 : ℕ) = (grid0.coords t 0).val * 2 + (j 0 : ℕ) := by
  obtain ⟨e0, -, -, -, -, -, hc⟩ := index1 t
  have h : ((((cfg0.win 1).blk t).view.emb j : S32x4096x128.Idx) 0 : ℕ) = win0_1.index t 0 * win0_1.size 0 + 1 * (j 0 : ℕ) := rfl
  rw [h, e0, hc, one_mul]

/-- The batch number of an entry of the block of point `t` of the second result. -/
theorem batch2 (t : Fin cfg0.N) (j : S2x4096x128.Idx) :
    ((((cfg0.win 2).blk t).view.emb j : S32x4096x128.Idx) 0 : ℕ) = (grid0.coords t 0).val * 2 + (j 0 : ℕ) := by
  obtain ⟨e0, -, -, -, -, -, hc⟩ := index2 t
  have h : ((((cfg0.win 2).blk t).view.emb j : S32x4096x128.Idx) 0 : ℕ) = win0_2.index t 0 * win0_2.size 0 + 1 * (j 0 : ℕ) := rfl
  rw [h, e0, hc, one_mul]

/-- What point `t` writes back to the first result is its block of `seasonOf` of the input. -/
theorem flushed_eq1 (c : Dev nD) (t : Fin cfg0.N) :
    (dats m 0 c).flushed 1 t = ((cfg0.win 1).blk t).view.read (Elt F) (seasonOf (input m c)) := by
  rw [Value.flushed1]
  unfold out0_1
  rw [View.canon_unit_zero hz, View.ld_unit_zero hz]
  funext j
  show Scalar.select (k0_pay2 (grid0.coords t) j) (Scalar.ofBits (F := F) .f32 0x00000000#32)
      (input m c (((cfg0.win 1).blk t).view.emb j)) = seasonOf (input m c) (((cfg0.win 1).blk t).view.emb j)
  rw [mask_apply, seasonOf, batch1 t j]
  split_ifs with h <;> rfl

/-- What point `t` writes back to the second result is its block of `trendOf` of the input. -/
theorem flushed_eq2 (c : Dev nD) (t : Fin cfg0.N) :
    (dats m 0 c).flushed 2 t = ((cfg0.win 2).blk t).view.read (Elt F) (trendOf (input m c)) := by
  rw [Value.flushed2]
  unfold out0_2
  rw [View.canon_unit_zero hz, View.ld_unit_zero hz]
  funext j
  show Scalar.select (k0_pay2 (grid0.coords t) j) (input m c (((cfg0.win 2).blk t).view.emb j))
      (Scalar.ofBits (F := F) .f32 0x00000000#32) = trendOf (input m c) (((cfg0.win 2).blk t).view.emb j)
  rw [mask_apply, trendOf, batch2 t j]
  split_ifs with h <;> rfl

/-- The first result array after the grid: the input with batch element 0 zeroed. -/
theorem final1 (c : Dev nD) : (dats m 0 c).arrAt 1 cfg0.N = seasonOf (input m c) :=
  (dats m 0 c).arrAt_eq_of_cover 1 (seasonOf (input m c)) (fun t _ => flushed_eq1 m c t) cover1

/-- The second result array after the grid: batch element 0 of the input, zero elsewhere. -/
theorem final2 (c : Dev nD) : (dats m 0 c).arrAt 2 cfg0.N = trendOf (input m c) :=
  (dats m 0 c).arrAt_eq_of_cover 2 (trendOf (input m c)) (fun t _ => flushed_eq2 m c t) cover2

end Cert.KernelValue

end
-- ==== Proof.RefTerms.lean ====
/-
  The reference's intermediate arrays, named. Each definition is one quantity of the reference — the angles, the cosine
  and sine tables, the real and imaginary parts of the transform, the magnitudes, the threshold, the kept coefficients,
  the weights, the seasonal part — as the operations that compute it; the two theorems at the end say that the two
  results of the reference's run are the last of them.
-/
module

public import proofs.«01_k».proof.Proof.Gen.ReferenceIdeal.Run
public import Idealize.ShloMosaic.PureOps.Ideal.Laws

@[expose] public section

set_option maxRecDepth 16384

noncomputable section

namespace Cert.RefTerms

open Cert.ReferenceIdeal Cert.ReferenceIdeal.Gen Idealize.ShloMosaic Idealize.ShloMosaic.TcCoe Idealize.SL.Sem

/-- The step of the angle: twice the arc cosine of minus one, over the length. -/
def step : FVec Ideal S_ .f32 :=
  Host.divf (mulf (constant S_ .f32 0x40000000#32) (Host.acos (constant S_ .f32 0xBF800000#32))) (constant S_ .f32 0x45800000#32)

/-- The angles: frequency times time, reduced modulo the length, times the step. -/
def angles : FVec Ideal S2049x4096 .f32 :=
  mulf (sitofp .f32 (Host.remsi (muli (iotaInDim S2049x4096 32 0) (iotaInDim S2049x4096 32 1))
      (broadcastInDim S2049x4096 ![] bcast_S_S2049x4096 (constantI S_ 32 4096#32))))
    (broadcastInDim S2049x4096 ![] bcast_S_S2049x4096 step)

/-- The table of cosines. -/
def cosT : FVec Ideal S2049x4096 .f32 := Host.cos angles

/-- The table of sines. -/
def sinT : FVec Ideal S2049x4096 .f32 := Host.sin angles

/-- The sums of the input against a table, over time. -/
def forward (x : FVec Ideal S32x4096x128 .f32) (table : FVec Ideal S2049x4096 .f32) : FVec Ideal S32x2049x128 .f32 :=
  transpose S32x2049x128 [0, 2, 1]
    (Host.dotGeneral dot_S32x4096x128_S2049x4096_S32x128x2049_1_1_02_0_n_n none x table) transposes_S32x128x2049_S32x2049x128_0_2_1

/-- The real part of the transform. -/
def re (x : FVec Ideal S32x4096x128 .f32) : FVec Ideal S32x2049x128 .f32 := forward x cosT

/-- The imaginary part of the transform. -/
def im (x : FVec Ideal S32x4096x128 .f32) : FVec Ideal S32x2049x128 .f32 := Host.negf (forward x sinT)

/-- The magnitudes. -/
def mag (x : FVec Ideal S32x4096x128 .f32) : FVec Ideal S32x2049x128 .f32 :=
  Host.sqrt (addf (mulf (re x) (re x)) (mulf (im x) (im x)))

/-- The magnitudes with batch element 0 set to zero. -/
def freq (x : FVec Ideal S32x4096x128 .f32) : FVec Ideal S32x2049x128 .f32 :=
  Host.scatter scatter_S32x2049x128_S1_S2049x128_01_0_0_0 (fun _ b => b) (mag x)
    (broadcastInDim S1 ![] bcast_S_S1 (constantI S_ 32 0#32))
    (broadcastInDim S2049x128 ![] bcast_S_S2049x128 (constant S_ .f32 0x00000000#32))

/-- The five greatest magnitudes of each batch element and channel. -/
def top (x : FVec Ideal S32x4096x128 .f32) : FVec Ideal S32x128x5 .f32 :=
  (Host.topK S32x128x5 2 (FloatOps.cmpfTotal .gt)
    (transpose S32x128x2049 [0, 2, 1] (freq x) transposes_S32x2049x128_S32x128x2049_0_2_1) sliceFits_S32x128x2049_S32x128x5).1

/-- The threshold: the least of them all. -/
def thresh (x : FVec Ideal S32x4096x128 .f32) : FVec Ideal S_ .f32 :=
  Host.reduce FloatOps.minimumf (top x) (constant S_ .f32 0x7F800000#32) reducesTo_S32x128x5_S_d0_1_2 h_S_

/-- The coefficients `z` where the magnitude exceeds the threshold, zero elsewhere. -/
def kept (x : FVec Ideal S32x4096x128 .f32) (z : FVec Ideal S32x2049x128 .f32) : FVec Ideal S32x2049x128 .f32 :=
  select (cmpf .ole (freq x) (broadcastInDim S32x2049x128 ![] bcast_S_S32x2049x128 (thresh x)))
    (broadcastInDim S32x2049x128 ![] bcast_S_S32x2049x128 (constant S_ .f32 0x00000000#32)) z

/-- The weights of the frequencies: the word `e` at the two end frequencies, two between. -/
def weights (e : BitVec 32) : FVec Ideal S32x2049x128 .f32 :=
  broadcastInDim S32x2049x128 ![0, 1, 2] bcast_S1x2049x1_S32x2049x128_0_1_2
    (broadcastInDim S1x2049x1 ![1] bcast_S2049_S1x2049x1_1
      (select (ori (cmpi .eq (iotaInDim S2049 32 0) (broadcastInDim S2049 ![] bcast_S_S2049 (constantI S_ 32 0#32)))
          (cmpi .eq (iotaInDim S2049 32 0) (broadcastInDim S2049 ![] bcast_S_S2049 (constantI S_ 32 2048#32))))
        (broadcastInDim S2049 ![] bcast_S_S2049 (constant (F := Ideal) S_ .f32 e))
        (broadcastInDim S2049 ![] bcast_S_S2049 (constant S_ .f32 0x40000000#32))))

/-- The sums of coefficients against a table, over the frequencies. -/
def backward (z : FVec Ideal S32x2049x128 .f32) (table : FVec Ideal S2049x4096 .f32) : FVec Ideal S32x4096x128 .f32 :=
  transpose S32x4096x128 [0, 2, 1]
    (Host.dotGeneral dot_S32x2049x128_S2049x4096_S32x128x4096_1_0_02_1_n_n none z table) transposes_S32x128x4096_S32x4096x128_0_2_1

/-- The seasonal part: the inverse transform of the kept coefficients. -/
def season (x : FVec Ideal S32x4096x128 .f32) : FVec Ideal S32x4096x128 .f32 :=
  Host.divf (subf (backward (mulf (weights 0x3F800000#32) (kept x (re x))) cosT)
      (backward (mulf (weights 0x00000000#32) (kept x (im x))) sinT))
    (broadcastInDim S32x4096x128 ![] bcast_S_S32x4096x128 (constant S_ .f32 0x45800000#32))

/-- The rest: the input less the seasonal part. -/
def trend (x : FVec Ideal S32x4096x128 .f32) : FVec Ideal S32x4096x128 .f32 := subf x (season x)

/-- The reference's first result is the seasonal part of its input. -/
theorem out0_eq (m : (ℓ : Loc nD τ sig) → Buf (Elt Ideal) ℓ) (c : Dev nD) :
    Value.res_out0 m c = season (m ((c.tc : Thread nD τ).loc main_arg0)) := rfl

/-- The reference's second result is the rest of its input. -/
theorem out1_eq (m : (ℓ : Loc nD τ sig) → Buf (Elt Ideal) ℓ) (c : Dev nD) :
    Value.res_out1 m c = trend (m ((c.tc : Thread nD τ).loc main_arg0)) := rfl

end Cert.RefTerms

end
-- ==== Proof.Fourier.lean ====
/-
  The real discrete Fourier transform of a real signal of even length, and its inverse, over the reals.

  A signal of length `2 * M` is given by its cosine and sine sums at the frequencies `0, …, M` alone. This file shows
  that the weighted sum of those — the two end frequencies counted once, every other twice — divided by the length is
  the signal again. Nothing here mentions a program.
-/
module

public import Idealize.ShloMosaic.PureOps.Ideal
public import Mathlib.Analysis.SpecialFunctions.Trigonometric.Basic

@[expose] public section

noncomputable section

namespace Cert.Fourier

open Finset

/-- The angle of frequency `f` at time `t` for a signal of length `n`, the product reduced modulo `n` first. -/
def angle (n f t : ℕ) : ℝ := ((f * t % n : ℕ) : ℝ) * (2 * Real.pi / n)

/-- How often a frequency is counted in the cosine half of the inverse: once at the two ends, twice between. -/
def weightRe (M f : ℕ) : ℝ := if f = 0 ∨ f = M then 1 else 2

/-- How often a frequency is counted in the sine half of the inverse: not at all at the two ends, twice between. -/
def weightIm (M f : ℕ) : ℝ := if f = 0 ∨ f = M then 0 else 2

/-- The angle differs from the one of the unreduced product by whole turns. -/
theorem angle_eq (n f t : ℕ) (hn : 0 < n) :
    angle n f t = (f : ℝ) * t * (2 * Real.pi / n) - ((f * t / n : ℕ) : ℝ) * (2 * Real.pi) := by
  have h : ((n * (f * t / n) + f * t % n : ℕ) : ℝ) = ((f * t : ℕ) : ℝ) := by rw [Nat.div_add_mod]
  have hn' : (n : ℝ) ≠ 0 := by positivity
  push_cast at h
  rw [angle, ← h]
  field_simp
  ring

/-- Reducing the product modulo the length does not change the cosine. -/
theorem cos_angle (n f t : ℕ) (hn : 0 < n) :
    Real.cos (angle n f t) = Real.cos ((f : ℝ) * t * (2 * Real.pi / n)) := by
  rw [angle_eq n f t hn, Real.cos_sub_nat_mul_two_pi]

/-- Reducing the product modulo the length does not change the sine. -/
theorem sin_angle (n f t : ℕ) (hn : 0 < n) :
    Real.sin (angle n f t) = Real.sin ((f : ℝ) * t * (2 * Real.pi / n)) := by
  rw [angle_eq n f t hn, Real.sin_sub_nat_mul_two_pi]

/-- A weighted sum over the frequencies, the two ends split off. -/
theorem sum_weightRe (m : ℕ) (c : ℕ → ℝ) :
    ∑ f ∈ range (m + 1 + 1), weightRe (m + 1) f * c f = c 0 + 2 * ∑ f ∈ range m, c (f + 1) + c (m + 1) := by
  rw [sum_range_succ, sum_range_succ', mul_sum]
  have h : ∀ f ∈ range m, weightRe (m + 1) (f + 1) * c (f + 1) = 2 * c (f + 1) := by
    intro f hf
    have := mem_range.1 hf
    rw [weightRe, if_neg (by omega)]
  rw [sum_congr rfl h]
  simp only [weightRe, true_or, or_true, if_true]
  ring

/-- A sum of cosines of an arithmetic progression telescopes. -/
theorem sum_cos (a : ℝ) (m : ℕ) :
    Real.sin (a / 2) * (2 * ∑ f ∈ range m, Real.cos (((f + 1 : ℕ) : ℝ) * a))
      = Real.sin ((m : ℝ) * a + a / 2) - Real.sin (a / 2) := by
  induction m with
  | zero => simp
  | succ m ih =>
    rw [sum_range_succ, mul_add, mul_add, ih]
    have e1 : ((m : ℝ) * a + a / 2) = ((m + 1 : ℕ) : ℝ) * a - a / 2 := by push_cast; ring
    rw [e1, Real.sin_sub, Real.sin_add]
    ring

/-- The weighted sum of cosines, times the sine of the half angle. -/
theorem kernel_mul_sin (a : ℝ) (m : ℕ) :
    Real.sin (a / 2) * ∑ f ∈ range (m + 1 + 1), weightRe (m + 1) f * Real.cos ((f : ℝ) * a)
      = Real.sin (((m + 1 : ℕ) : ℝ) * a) * Real.cos (a / 2) := by
  rw [sum_weightRe m (fun f => Real.cos ((f : ℝ) * a)), mul_add, mul_add, sum_cos]
  have e1 : ((m : ℝ) * a + a / 2) = ((m + 1 : ℕ) : ℝ) * a - a / 2 := by push_cast; ring
  rw [e1, Real.sin_sub]
  simp only [Nat.cast_zero, zero_mul, Real.cos_zero]
  ring

/-- The weighted sum of cosines at the difference of two times: the length if they are one, else zero. -/
theorem kernel_eq (m s t : ℕ) (hs : s < 2 * (m + 1)) (ht : t < 2 * (m + 1)) :
    ∑ f ∈ range (m + 1 + 1),
        weightRe (m + 1) f * Real.cos ((f : ℝ) * (((s : ℝ) - t) * (2 * Real.pi / (2 * (m + 1) : ℕ))))
      = if s = t then ((2 * (m + 1) : ℕ) : ℝ) else 0 := by
  split_ifs with h
  · subst h
    rw [sum_weightRe m (fun f => Real.cos ((f : ℝ) * (((s : ℝ) - s) * (2 * Real.pi / (2 * (m + 1) : ℕ)))))]
    simp
    ring
  · have hM : ((m : ℝ) + 1) ≠ 0 := by positivity
    have key := kernel_mul_sin (((s : ℝ) - t) * (2 * Real.pi / (2 * (m + 1) : ℕ))) m
    have e : ((m + 1 : ℕ) : ℝ) * (((s : ℝ) - t) * (2 * Real.pi / (2 * (m + 1) : ℕ)))
        = (((s : ℤ) - (t : ℤ) : ℤ) : ℝ) * Real.pi := by
      push_cast
      field_simp
    rw [e, Real.sin_int_mul_pi, zero_mul] at key
    refine (mul_eq_zero.1 key).resolve_left fun h0 => ?_
    obtain ⟨k, hk⟩ := Real.sin_eq_zero_iff.1 h0
    have hk' : (k : ℝ) * (2 * (m + 1)) = (s : ℝ) - t := by
      push_cast at hk
      field_simp at hk
      linarith
    have hz : k * (2 * (m + 1)) = (s : ℤ) - t := by exact_mod_cast hk'
    have k0 : k = 0 := by
      by_contra hne
      rcases lt_or_gt_of_ne hne with hlt | hgt
      · have : k * (2 * ((m : ℤ) + 1)) ≤ -1 * (2 * ((m : ℤ) + 1)) := by
          apply mul_le_mul_of_nonneg_right <;> omega
        omega
      · have : 1 * (2 * ((m : ℤ) + 1)) ≤ k * (2 * ((m : ℤ) + 1)) := by
          apply mul_le_mul_of_nonneg_right <;> omega
        omega
    subst k0
    omega

/-- At the two end frequencies every sine is zero, so the sine weights may be replaced by the cosine ones. -/
theorem weightIm_mul_sin (M f t : ℕ) (hM : 0 < M) :
    weightIm M f * Real.sin (angle (2 * M) f t) = weightRe M f * Real.sin (angle (2 * M) f t) := by
  unfold weightIm weightRe
  split_ifs with h
  · have hs : Real.sin (angle (2 * M) f t) = 0 := by
      rw [sin_angle _ _ _ (by omega)]
      rcases h with h | h
      · subst h; simp
      · subst h
        have hM' : (f : ℝ) ≠ 0 := by positivity
        have e : (f : ℝ) * t * (2 * Real.pi / (2 * f : ℕ)) = (t : ℝ) * Real.pi := by
          push_cast
          field_simp
        rw [e, Real.sin_nat_mul_pi]
    rw [hs]; ring
  · rfl

/-- **Inversion.** The weighted cosine and sine sums of a real signal's transform at the frequencies `0, …, M`, divided
    by the signal's length `2 * M`, give back the signal. -/
theorem inversion (M : ℕ) (hM : 0 < M) (y : Fin (2 * M) → ℝ) (t : Fin (2 * M)) :
    ((∑ f : Fin (M + 1), weightRe M f * (∑ s : Fin (2 * M), y s * Real.cos (angle (2 * M) f s)) * Real.cos (angle (2 * M) f t))
      - ∑ f : Fin (M + 1), weightIm M f * (-∑ s : Fin (2 * M), y s * Real.sin (angle (2 * M) f s)) * Real.sin (angle (2 * M) f t))
        / ((2 * M : ℕ) : ℝ) = y t := by
  obtain ⟨m, rfl⟩ : ∃ m, M = m + 1 := ⟨M - 1, by omega⟩
  have hn : ((2 * (m + 1) : ℕ) : ℝ) ≠ 0 := by positivity
  rw [div_eq_iff hn, ← sum_sub_distrib]
  have h1 : ∀ f : Fin (m + 1 + 1),
      weightRe (m + 1) f * (∑ s : Fin (2 * (m + 1)), y s * Real.cos (angle (2 * (m + 1)) f s)) * Real.cos (angle (2 * (m + 1)) f t)
        - weightIm (m + 1) f * (-∑ s : Fin (2 * (m + 1)), y s * Real.sin (angle (2 * (m + 1)) f s)) * Real.sin (angle (2 * (m + 1)) f t)
      = ∑ s : Fin (2 * (m + 1)), y s * (weightRe (m + 1) f
          * Real.cos (((f : ℕ) : ℝ) * ((((s : ℕ) : ℝ) - (t : ℕ)) * (2 * Real.pi / (2 * (m + 1) : ℕ))))) := by
    intro f
    have e2 : weightIm (m + 1) f * (-∑ s : Fin (2 * (m + 1)), y s * Real.sin (angle (2 * (m + 1)) f s)) * Real.sin (angle (2 * (m + 1)) f t)
        = (-∑ s : Fin (2 * (m + 1)), y s * Real.sin (angle (2 * (m + 1)) f s)) * (weightRe (m + 1) f * Real.sin (angle (2 * (m + 1)) f t)) := by
      rw [← weightIm_mul_sin (m + 1) f t (by omega)]; ring
    rw [e2, neg_mul, sub_neg_eq_add, mul_sum, sum_mul, sum_mul, ← sum_add_distrib]
    refine sum_congr rfl fun s _ => ?_
    have e3 : ((f : ℕ) : ℝ) * ((((s : ℕ) : ℝ) - (t : ℕ)) * (2 * Real.pi / (2 * (m + 1) : ℕ)))
        = ((f : ℕ) : ℝ) * (s : ℕ) * (2 * Real.pi / (2 * (m + 1) : ℕ)) - ((f : ℕ) : ℝ) * (t : ℕ) * (2 * Real.pi / (2 * (m + 1) : ℕ)) := by
      ring
    rw [e3, Real.cos_sub, cos_angle _ _ _ (by omega), cos_angle _ _ _ (by omega), sin_angle _ _ _ (by omega),
      sin_angle _ _ _ (by omega)]
    ring
  rw [sum_congr rfl fun f _ => h1 f, sum_comm]
  have h2 : ∀ s : Fin (2 * (m + 1)),
      ∑ f : Fin (m + 1 + 1), y s * (weightRe (m + 1) f
          * Real.cos (((f : ℕ) : ℝ) * ((((s : ℕ) : ℝ) - (t : ℕ)) * (2 * Real.pi / (2 * (m + 1) : ℕ)))))
        = if s = t then y s * ((2 * (m + 1) : ℕ) : ℝ) else 0 := by
    intro s
    rw [← mul_sum, Fin.sum_univ_eq_sum_range (fun f : ℕ => weightRe (m + 1) f
          * Real.cos ((f : ℝ) * ((((s : ℕ) : ℝ) - (t : ℕ)) * (2 * Real.pi / (2 * (m + 1) : ℕ))))) (m + 1 + 1),
      kernel_eq m s t s.isLt t.isLt, mul_ite, mul_zero]
    simp only [Fin.ext_iff]
  rw [sum_congr rfl fun s _ => h2 s, sum_ite_eq' univ t]
  simp

/-- `inversion` with the length and the number of frequencies under names of their own. -/
theorem inversion_of (M N K : ℕ) (hM : 0 < M) (hN : N = 2 * M) (hK : K = M + 1) (y : Fin N → ℝ) (t : Fin N) :
    ((∑ f : Fin K, weightRe M f * (∑ s : Fin N, y s * Real.cos (angle N f s)) * Real.cos (angle N f t))
      - ∑ f : Fin K, weightIm M f * (-∑ s : Fin N, y s * Real.sin (angle N f s)) * Real.sin (angle N f t))
        / (N : ℝ) = y t := by
  subst hN hK
  exact inversion M hM y t

end Cert.Fourier

end
-- ==== Proof.RefTables.lean ====
/-
  The reference's tables at an index: the literals, the angles, the cosines and sines, the weights of the frequencies —
  each as a real number.
-/
module

public import proofs.«01_k».proof.Proof.RefTerms
public import proofs.«01_k».proof.Proof.Fourier
public import Idealize.ShloMosaic.Lib.Pointwise
public import Idealize.ShloMosaic.Lib.Routing.Words

@[expose] public section

set_option maxRecDepth 16384

noncomputable section

namespace Cert.RefTables

open Cert.ReferenceIdeal Cert.ReferenceIdeal.Gen Idealize.ShloMosaic Idealize.ShloMosaic.TcCoe Idealize.SL.Sem Cert.RefTerms

/-- The word `0x40000000` is two. -/
theorem word_two : Ideal.ofBits .f32 0x40000000#32 = ((2 : ℝ) : EReal) := by
  simp [Ideal.ofBits, Ideal.ieee, ← EReal.coe_mul]
  norm_num

/-- The word `0x45800000` is 4096, the length. -/
theorem word_len : Ideal.ofBits .f32 0x45800000#32 = ((4096 : ℝ) : EReal) := by
  simp [Ideal.ofBits, Ideal.ieee, ← EReal.coe_mul]
  norm_num

/-- The word `0xBF800000` is minus one. -/
theorem word_neg : Ideal.ofBits .f32 0xBF800000#32 = ((-1 : ℝ) : EReal) := by
  simp [Ideal.ofBits, Ideal.ieee, ← EReal.coe_mul]
  norm_num

/-- The word `0x7F800000` is infinity. -/
theorem word_top : Ideal.ofBits .f32 0x7F800000#32 = (⊤ : EReal) := by
  simp [Ideal.ofBits, Ideal.ieee]

/-- A finite sum of reals is the same sum among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The step of the angle is a whole turn over the length. -/
theorem step_apply (j : S_.Idx) : step j = ((2 * Real.pi / (4096 : ℕ) : ℝ) : EReal) := by
  have h : step j = Ideal.div (Ideal.ofBits .f32 0x40000000#32 * Ideal.acos (Ideal.ofBits .f32 0xBF800000#32))
      (Ideal.ofBits .f32 0x45800000#32) := by
    pointwise [step]
  rw [h, word_two, word_neg, word_len, Ideal.acos_coe, if_pos (by norm_num), Ideal.div_coe (by norm_num),
    ← EReal.coe_mul, ← EReal.coe_mul, Real.arccos_neg_one]
  congr 1
  push_cast
  ring

/-- The product of a frequency and a time, reduced modulo the length, as a 32-bit word. -/
theorem reduced (f : Fin 2049) (t : Fin 4096) :
    (IntOp.remsi ArithUnit.host (IntOp.muli (BitVec.ofNat 32 f) (BitVec.ofNat 32 t)) 4096#32).toInt = ((f * t % 4096 : ℕ) : ℤ) := by
  have hb : (f : ℕ) * (t : ℕ) ≤ 2048 * 4095 := Nat.mul_le_mul (by omega) (by omega)
  have e : IntOp.muli (BitVec.ofNat 32 f) (BitVec.ofNat 32 t) = BitVec.ofNat 32 (f * t) := by
    apply BitVec.eq_of_toNat_eq
    simp only [IntOp.muli, BitVec.toNat_mul, BitVec.toNat_ofNat]
    rw [← Nat.mul_mod]
  rw [e, Routing.remsi_word .host (by omega) (by norm_num) (by norm_num)]
  rw [BitVec.toInt_eq_toNat_of_lt (by rw [BitVec.toNat_ofNat]; omega), BitVec.toNat_ofNat]
  norm_cast
  omega

/-- The angle at frequency `f` and time `t`. -/
theorem angles_apply (f : Fin 2049) (t : Fin 4096) : angles (ix2 f t) = ((Fourier.angle 4096 f t : ℝ) : EReal) := by
  have h : angles (ix2 f t) = FloatOps.sitofp .f32 (IntOp.remsi ArithUnit.host
      (IntOp.muli (BitVec.ofNat 32 f) (BitVec.ofNat 32 t)) 4096#32) * step ix0 := by
    pointwise [angles]
  have h' : (FloatOps.sitofp .f32 (IntOp.remsi ArithUnit.host
      (IntOp.muli (BitVec.ofNat 32 f) (BitVec.ofNat 32 t)) 4096#32) : Ideal .f32)
      = ((((IntOp.remsi ArithUnit.host (IntOp.muli (BitVec.ofNat 32 f) (BitVec.ofNat 32 t)) 4096#32).toInt : ℤ) : ℝ) : EReal) := rfl
  rw [h, h', step_apply, reduced, ← EReal.coe_mul]
  rfl

/-- The cosine table at an index. -/
theorem cosT_apply (f : Fin 2049) (t : Fin 4096) : cosT (ix2 f t) = ((Real.cos (Fourier.angle 4096 f t) : ℝ) : EReal) := by
  show Ideal.cos (angles (ix2 f t)) = _
  rw [angles_apply, Ideal.cos_coe]

/-- The sine table at an index. -/
theorem sinT_apply (f : Fin 2049) (t : Fin 4096) : sinT (ix2 f t) = ((Real.sin (Fourier.angle 4096 f t) : ℝ) : EReal) := by
  show Ideal.sin (angles (ix2 f t)) = _
  rw [angles_apply, Ideal.sin_coe]

/-- The comparison of a frequency's word with another number's. -/
theorem cmp_word (f : Fin 2049) (k : ℕ) (hk : k < 2049) :
    IntOp.cmpi .eq (BitVec.ofNat 32 f) (BitVec.ofNat 32 k) = if (f : ℕ) = k then 1#1 else 0#1 := by
  unfold IntOp.cmpi
  have hb : (BitVec.ofNat 32 (f : ℕ) == BitVec.ofNat 32 k) = decide ((f : ℕ) = k) := by
    rw [Bool.eq_iff_iff, beq_iff_eq, decide_eq_true_iff]
    refine ⟨fun h => ?_, fun h => by rw [h]⟩
    have := congrArg BitVec.toNat h
    simp only [BitVec.toNat_ofNat] at this
    omega
  simp only [hb]
  split_ifs with h <;> simp [h]

/-- The weights at an index: the given word at the two end frequencies, two between. -/
theorem weights_apply (e : BitVec 32) (b : Fin 32) (f : Fin 2049) (c : Fin 128) :
    weights e (ix3 b f c) = if (f : ℕ) = 0 ∨ (f : ℕ) = 2048 then Ideal.ofBits .f32 e else ((2 : ℝ) : EReal) := by
  have h : weights e (ix3 b f c) = Scalar.select (IntOp.ori (IntOp.cmpi .eq (BitVec.ofNat 32 f) (BitVec.ofNat 32 0))
      (IntOp.cmpi .eq (BitVec.ofNat 32 f) (BitVec.ofNat 32 2048))) (Ideal.ofBits .f32 e) (Ideal.ofBits .f32 0x40000000#32) := by
    pointwise [weights]
  rw [h, word_two, cmp_word f 0 (by norm_num), cmp_word f 2048 (by norm_num)]
  by_cases h0 : (f : ℕ) = 0 <;> by_cases h1 : (f : ℕ) = 2048 <;> simp [h0, h1, Scalar.select, IntOp.ori]

/-- The weights of the cosine half. -/
theorem weightsRe_apply (b : Fin 32) (f : Fin 2049) (c : Fin 128) :
    weights 0x3F800000#32 (ix3 b f c) = ((Fourier.weightRe 2048 f : ℝ) : EReal) := by
  rw [weights_apply, Ideal.ofBits_one_f32, Fourier.weightRe]
  split_ifs <;> simp

/-- The weights of the sine half. -/
theorem weightsIm_apply (b : Fin 32) (f : Fin 2049) (c : Fin 128) :
    weights 0x00000000#32 (ix3 b f c) = ((Fourier.weightIm 2048 f : ℝ) : EReal) := by
  rw [weights_apply, Ideal.ofBits_zero_f32, Fourier.weightIm]
  split_ifs <;> simp

end Cert.RefTables

end
-- ==== Proof.RefTransform.lean ====
/-
  The reference's transform at an index, for an input whose every entry is a real number: the real and the imaginary
  part, and the inverse transform of any real coefficients. The inverse of the unmasked coefficients is the input.
-/
module

public import proofs.«01_k».proof.Proof.RefTables

@[expose] public section

set_option maxRecDepth 16384

noncomputable section

namespace Cert.RefTransform

open Cert.ReferenceIdeal Cert.ReferenceIdeal.Gen Idealize.ShloMosaic Idealize.ShloMosaic.TcCoe Idealize.SL.Sem
open Cert.RefTerms Cert.RefTables

variable (x : FVec Ideal S32x4096x128 .f32) (X : S32x4096x128.Idx → ℝ)

/-- The real part as a real number. -/
def reR (b : Fin 32) (f : Fin 2049) (c : Fin 128) : ℝ :=
  ∑ s : Fin 4096, X (ix3 b s c) * Real.cos (Fourier.angle 4096 f s)

/-- The imaginary part as a real number. -/
def imR (b : Fin 32) (f : Fin 2049) (c : Fin 128) : ℝ :=
  -∑ s : Fin 4096, X (ix3 b s c) * Real.sin (Fourier.angle 4096 f s)

/-- A sum over time at an index. -/
theorem forward_apply (table : FVec Ideal S2049x4096 .f32) (T : ℕ → ℕ → ℝ)
    (hT : ∀ (f : Fin 2049) (t : Fin 4096), table (ix2 f t) = ((T f t : ℝ) : EReal))
    (hx : ∀ i, x i = ((X i : ℝ) : EReal)) (b : Fin 32) (f : Fin 2049) (c : Fin 128) :
    forward x table (ix3 b f c) = ((∑ s : Fin 4096, X (ix3 b s c) * T f s : ℝ) : EReal) := by
  have h : forward x table (ix3 b f c) = ∑ s : Fin 4096, x (ix3 b s c) * table (ix2 f s) := by
    pointwise [forward]
  rw [h, ← coe_sum]
  refine Finset.sum_congr rfl fun s _ => ?_
  rw [hx, hT, EReal.coe_mul]

/-- A sum over the frequencies at an index. -/
theorem backward_apply (z : FVec Ideal S32x2049x128 .f32) (Z : Fin 32 → Fin 2049 → Fin 128 → ℝ)
    (hZ : ∀ b f c, z (ix3 b f c) = ((Z b f c : ℝ) : EReal)) (table : FVec Ideal S2049x4096 .f32) (T : ℕ → ℕ → ℝ)
    (hT : ∀ (f : Fin 2049) (t : Fin 4096), table (ix2 f t) = ((T f t : ℝ) : EReal)) (b : Fin 32) (t : Fin 4096) (c : Fin 128) :
    backward z table (ix3 b t c) = ((∑ f : Fin 2049, Z b f c * T f t : ℝ) : EReal) := by
  have h : backward z table (ix3 b t c) = ∑ f : Fin 2049, z (ix3 b f c) * table (ix2 f t) := by
    pointwise [backward]
  rw [h, ← coe_sum]
  refine Finset.sum_congr rfl fun f _ => ?_
  rw [hZ, hT, EReal.coe_mul]

/-- The real part at an index. -/
theorem re_apply (hx : ∀ i, x i = ((X i : ℝ) : EReal)) (b : Fin 32) (f : Fin 2049) (c : Fin 128) :
    re x (ix3 b f c) = ((reR X b f c : ℝ) : EReal) :=
  forward_apply x X cosT (fun f t => Real.cos (Fourier.angle 4096 f t)) cosT_apply hx b f c

/-- The imaginary part at an index. -/
theorem im_apply (hx : ∀ i, x i = ((X i : ℝ) : EReal)) (b : Fin 32) (f : Fin 2049) (c : Fin 128) :
    im x (ix3 b f c) = ((imR X b f c : ℝ) : EReal) := by
  have h : im x (ix3 b f c) = -forward x sinT (ix3 b f c) := rfl
  rw [h, forward_apply x X sinT (fun f t => Real.sin (Fourier.angle 4096 f t)) sinT_apply hx b f c, ← EReal.coe_neg]
  rfl

/-- The magnitude at an index. -/
theorem mag_apply (hx : ∀ i, x i = ((X i : ℝ) : EReal)) (b : Fin 32) (f : Fin 2049) (c : Fin 128) :
    mag x (ix3 b f c) = ((Real.sqrt (reR X b f c * reR X b f c + imR X b f c * imR X b f c) : ℝ) : EReal) := by
  have h : mag x (ix3 b f c)
      = Ideal.sqrt (re x (ix3 b f c) * re x (ix3 b f c) + im x (ix3 b f c) * im x (ix3 b f c)) := by
    pointwise [mag]
  have hn : ¬ reR X b f c * reR X b f c + imR X b f c * imR X b f c < 0 :=
    not_lt.2 (add_nonneg (mul_self_nonneg _) (mul_self_nonneg _))
  rw [h, re_apply x X hx, im_apply x X hx, ← EReal.coe_mul, ← EReal.coe_mul, ← EReal.coe_add, Ideal.sqrt_coe, if_neg hn]

/-- The seasonal part at an index, from the kept coefficients as real numbers. -/
theorem season_apply (A B : Fin 32 → Fin 2049 → Fin 128 → ℝ)
    (hA : ∀ b f c, kept x (re x) (ix3 b f c) = ((A b f c : ℝ) : EReal))
    (hB : ∀ b f c, kept x (im x) (ix3 b f c) = ((B b f c : ℝ) : EReal)) (b : Fin 32) (t : Fin 4096) (c : Fin 128) :
    season x (ix3 b t c)
      = ((((∑ f : Fin 2049, Fourier.weightRe 2048 f * A b f c * Real.cos (Fourier.angle 4096 f t))
          - ∑ f : Fin 2049, Fourier.weightIm 2048 f * B b f c * Real.sin (Fourier.angle 4096 f t)) / (4096 : ℕ) : ℝ) : EReal) := by
  have h : season x (ix3 b t c)
      = Ideal.div (backward (mulf (weights 0x3F800000#32) (kept x (re x))) cosT (ix3 b t c)
          - backward (mulf (weights 0x00000000#32) (kept x (im x))) sinT (ix3 b t c)) (Ideal.ofBits .f32 0x45800000#32) := by
    pointwise [season]
  have hA' : ∀ b f c, mulf (weights 0x3F800000#32) (kept x (re x)) (ix3 b f c)
      = ((Fourier.weightRe 2048 f * A b f c : ℝ) : EReal) := by
    intro b f c
    show weights 0x3F800000#32 (ix3 b f c) * kept x (re x) (ix3 b f c) = _
    rw [weightsRe_apply, hA, EReal.coe_mul]
  have hB' : ∀ b f c, mulf (weights 0x00000000#32) (kept x (im x)) (ix3 b f c)
      = ((Fourier.weightIm 2048 f * B b f c : ℝ) : EReal) := by
    intro b f c
    show weights 0x00000000#32 (ix3 b f c) * kept x (im x) (ix3 b f c) = _
    rw [weightsIm_apply, hB, EReal.coe_mul]
  rw [h, word_len, backward_apply _ (fun b f c => Fourier.weightRe 2048 f * A b f c) hA' cosT
      (fun f t => Real.cos (Fourier.angle 4096 f t)) cosT_apply,
    backward_apply _ (fun b f c => Fourier.weightIm 2048 f * B b f c) hB' sinT
      (fun f t => Real.sin (Fourier.angle 4096 f t)) sinT_apply,
    Ideal.div_coe (by norm_num), ← EReal.coe_sub, ← EReal.coe_mul]
  congr 1
  push_cast
  ring

/-- The inverse transform of the whole transform is the input. -/
theorem inverse (b : Fin 32) (t : Fin 4096) (c : Fin 128) :
    ((∑ f : Fin 2049, Fourier.weightRe 2048 f * reR X b f c * Real.cos (Fourier.angle 4096 f t))
      - ∑ f : Fin 2049, Fourier.weightIm 2048 f * imR X b f c * Real.sin (Fourier.angle 4096 f t)) / (4096 : ℕ)
      = X (ix3 b t c) :=
  Fourier.inversion_of 2048 4096 2049 (by norm_num) (by norm_num) (by norm_num) (fun s => X (ix3 b s c)) t

end Cert.RefTransform

end
-- ==== Proof.RefThreshold.lean ====
/-
  The reference's threshold is zero. Every magnitude is at least zero, and those of batch element 0 are set to zero, so
  the least of the greatest five of every batch element and channel is zero.
-/
module

public import proofs.«01_k».proof.Proof.RefTransform
public import Idealize.ShloMosaic.Lib.Routing.OpsSet
public import Idealize.ShloMosaic.Lib.Routing.OpsPair
public import Idealize.ShloMosaic.Lib.Routing.OpsOrder
public import Idealize.ShloMosaic.PureOps.Reduce

@[expose] public section

set_option maxRecDepth 16384

noncomputable section

namespace Cert.RefThreshold

open Cert.ReferenceIdeal Cert.ReferenceIdeal.Gen Idealize.ShloMosaic Idealize.ShloMosaic.TcCoe Idealize.SL.Sem
open Cert.RefTerms Cert.RefTables Cert.RefTransform

/-- Where an update of the zeroed slab lands: at batch element 0, its own frequency and channel. -/
theorem lands (k : S2049x128.Idx) (i : S32x2049x128.Idx) :
    scatter_S32x2049x128_S1_S2049x128_01_0_0_0.resultIdx? k (broadcastInDim S1 ![] bcast_S_S1 (constantI S_ 32 0#32)) = some i
      ↔ (i 0 : ℕ) = 0 ∧ (i 1 : ℕ) = (k 0 : ℕ) ∧ (i 2 : ℕ) = (k 1 : ℕ) := by
  rw [Routing.resultIdx?_eq_some]
  have hs : ∀ a, scatter_S32x2049x128_S1_S2049x128_01_0_0_0.start k
      (broadcastInDim S1 ![] bcast_S_S1 (constantI S_ 32 0#32)) a = 0 := by
    intro a
    unfold ScatterDims.start
    split_ifs with h
    · rfl
    · rfl
  have w0 : scatter_S32x2049x128_S1_S2049x128_01_0_0_0.window k 0 = 0 := rfl
  have w1 : scatter_S32x2049x128_S1_S2049x128_01_0_0_0.window k 1 = (k 0 : ℕ) := rfl
  have w2 : scatter_S32x2049x128_S1_S2049x128_01_0_0_0.window k 2 = (k 1 : ℕ) := rfl
  constructor
  · intro h
    have h0 := h 0
    have h1 := h 1
    have h2 := h 2
    rw [hs, w0] at h0
    rw [hs, w1] at h1
    rw [hs, w2] at h2
    omega
  · rintro ⟨h0, h1, h2⟩ a
    rw [hs]
    match a with
    | ⟨0, _⟩ =>
      show (0 : ℤ) + ((scatter_S32x2049x128_S1_S2049x128_01_0_0_0.window k 0 : ℕ) : ℤ) = ((i 0 : ℕ) : ℤ)
      rw [w0]; omega
    | ⟨1, _⟩ =>
      show (0 : ℤ) + ((scatter_S32x2049x128_S1_S2049x128_01_0_0_0.window k 1 : ℕ) : ℤ) = ((i 1 : ℕ) : ℤ)
      rw [w1]; omega
    | ⟨2, _⟩ =>
      show (0 : ℤ) + ((scatter_S32x2049x128_S1_S2049x128_01_0_0_0.window k 2 : ℕ) : ℤ) = ((i 2 : ℕ) : ℤ)
      rw [w2]; omega

/-- Every update is zero. -/
theorem update_zero (k : S2049x128.Idx) :
    broadcastInDim S2049x128 ![] bcast_S_S2049x128 (constant (F := Ideal) S_ .f32 0x00000000#32) k = (0 : EReal) :=
  Ideal.ofBits_zero_f32

/-- The magnitudes with batch element 0 zeroed, at an index. -/
theorem freq_apply (x : FVec Ideal S32x4096x128 .f32) (b : Fin 32) (f : Fin 2049) (c : Fin 128) :
    freq x (ix3 b f c) = if (b : ℕ) = 0 then (0 : EReal) else mag x (ix3 b f c) := by
  split_ifs with h
  · exact Routing.scatter_set_hit _ _ _ _ _ _ (fun k _ => update_zero k) (ix2 f c) ((lands _ _).2 ⟨h, rfl, rfl⟩)
  · exact Routing.scatter_set_miss _ _ _ _ _ fun k hk => h ((lands _ _).1 hk).1

/-- Every magnitude, batch element 0 zeroed, is at least zero. -/
theorem freq_nonneg (x : FVec Ideal S32x4096x128 .f32) (X : S32x4096x128.Idx → ℝ) (hx : ∀ i, x i = ((X i : ℝ) : EReal))
    (b : Fin 32) (f : Fin 2049) (c : Fin 128) : (0 : EReal) ≤ freq x (ix3 b f c) := by
  rw [freq_apply]
  split_ifs
  · exact le_rfl
  · rw [mag_apply x X hx]
    exact EReal.coe_nonneg.2 (Real.sqrt_nonneg _)

/-- A value of `top_k` along the last axis of a rank-three array is an entry of the array at the same two first
    coordinates. -/
theorem topK_mem (y : FVec Ideal S32x128x2049 .f32) (b : Fin 32) (c : Fin 128) (k : Fin 5) :
    ∃ p : S32x128x2049.Idx, p 0 = b ∧ p 1 = c ∧
      (Host.topK S32x128x5 2 (FloatOps.cmpfTotal .gt) y sliceFits_S32x128x2049_S32x128x5).1 (ix3 b c k) = y p := by
  unfold Host.topK Host.sort2 extractStridedSlice
  simp only [show (2 : ℕ) < S32x128x2049.rank from by decide, dite_true]
  refine ⟨_, ?_, ?_, rfl⟩
  · exact Fin.ext (Nat.zero_add _)
  · exact Fin.ext (Nat.zero_add _)

/-- Each of the five greatest of a batch element and channel is one of that batch element's and channel's magnitudes. -/
theorem top_apply (x : FVec Ideal S32x4096x128 .f32) (b : Fin 32) (c : Fin 128) (k : Fin 5) :
    ∃ f : Fin 2049, top x (ix3 b c k) = freq x (ix3 b f c) := by
  obtain ⟨p, h0, h1, h⟩ := topK_mem (transpose S32x128x2049 [0, 2, 1] (freq x) transposes_S32x2049x128_S32x128x2049_0_2_1) b c k
  have hp : p = ix3 b c (p 2) := by
    rw [← h0, ← h1]; exact eq_ix3 p
  refine ⟨p 2, h.trans ?_⟩
  rw [hp]
  pointwise

/-- Infinity is the start of the minimum. -/
theorem start_top (j : S_.Idx) : constant (F := Ideal) S_ .f32 0x7F800000#32 j = (⊤ : EReal) := word_top

/-- The minimum over a list from a start: at most every element, at least any common lower bound. -/
theorem foldl_min_le {ι : Type} (g : ι → EReal) (l : List ι) (z : EReal) :
    l.foldl (fun r i => min r (g i)) z ≤ z ∧ ∀ i ∈ l, l.foldl (fun r i => min r (g i)) z ≤ g i := by
  induction l generalizing z with
  | nil => exact ⟨le_rfl, fun i hi => nomatch hi⟩
  | cons a l ih =>
    obtain ⟨h1, h2⟩ := ih (min z (g a))
    refine ⟨h1.trans (min_le_left _ _), fun i hi => ?_⟩
    rcases List.mem_cons.1 hi with rfl | hi
    · exact h1.trans (min_le_right _ _)
    · exact h2 i hi

/-- The minimum over a list is at least any common lower bound of the start and the elements. -/
theorem le_foldl_min {ι : Type} (g : ι → EReal) (l : List ι) (z w : EReal) (hz : w ≤ z) (hg : ∀ i, w ≤ g i) :
    w ≤ l.foldl (fun r i => min r (g i)) z := by
  induction l generalizing z with
  | nil => exact hz
  | cons a l ih => exact ih _ (le_min hz (hg a))

/-- **The threshold is zero.** -/
theorem thresh_eq (x : FVec Ideal S32x4096x128 .f32) (X : S32x4096x128.Idx → ℝ) (hx : ∀ i, x i = ((X i : ℝ) : EReal)) :
    thresh x ix0 = (0 : EReal) := by
  have htop : ∀ i : S32x128x5.Idx, ∃ f : Fin 2049, top x i = freq x (ix3 (i 0) f (i 1)) := by
    intro i
    obtain ⟨f, hf⟩ := top_apply x (i 0) (i 1) (i 2)
    exact ⟨f, (congrArg (top x) (eq_ix3 i)).trans hf⟩
  have e : thresh x ix0 = (((List.finRange S32x128x5.numel).map S32x128x5.rowMajor.symm).filter
      fun i => reducesTo_S32x128x5_S_d0_1_2.drop i = ix0).foldl (fun r i => min r (top x i)) (⊤ : EReal) := by
    unfold thresh
    rw [Host.reduce_eq_foldl, start_top]
    rfl
  rw [e]
  apply le_antisymm
  · have hmem : (ix3 (0 : Fin 32) (0 : Fin 128) (0 : Fin 5) : S32x128x5.Idx) ∈ ((List.finRange S32x128x5.numel).map S32x128x5.rowMajor.symm).filter
        fun i => reducesTo_S32x128x5_S_d0_1_2.drop i = ix0 := by
      rw [List.mem_filter]
      refine ⟨List.mem_map.2 ⟨S32x128x5.rowMajor _, List.mem_finRange _, Equiv.symm_apply_apply _ _⟩, ?_⟩
      exact decide_eq_true (funext fun a => a.elim0)
    refine ((foldl_min_le (top x) _ ⊤).2 _ hmem).trans (le_of_eq ?_)
    obtain ⟨f, hf⟩ := top_apply x 0 0 0
    rw [hf, freq_apply]
    exact if_pos rfl
  · refine le_foldl_min (top x) _ ⊤ 0 le_top fun i => ?_
    obtain ⟨f, hf⟩ := htop i
    rw [hf]
    exact freq_nonneg x X hx _ _ _

end Cert.RefThreshold

end
-- ==== Proof.RefValue.lean ====
/-
  The reference's two results, for an input whose every entry is a real number. The threshold is zero, so a coefficient
  is dropped exactly where the magnitude is zero: everywhere in batch element 0, whose magnitudes were set to zero, and
  elsewhere only where the coefficient is zero already. So the seasonal part is zero at batch element 0 and the whole
  input elsewhere, and the rest the other way round.
-/
module

public import proofs.«01_k».proof.Proof.RefThreshold

@[expose] public section

set_option maxRecDepth 16384

noncomputable section

namespace Cert.RefValue

open Cert.ReferenceIdeal Cert.ReferenceIdeal.Gen Idealize.ShloMosaic Idealize.ShloMosaic.TcCoe Idealize.SL.Sem
open Cert.RefTerms Cert.RefTables Cert.RefTransform Cert.RefThreshold

variable (x : FVec Ideal S32x4096x128 .f32) (X : S32x4096x128.Idx → ℝ)

/-- The kept coefficients at an index. -/
theorem kept_apply (hx : ∀ i, x i = ((X i : ℝ) : EReal)) (z : FVec Ideal S32x2049x128 .f32)
    (b : Fin 32) (f : Fin 2049) (c : Fin 128) :
    kept x z (ix3 b f c) = if freq x (ix3 b f c) ≤ 0 then (0 : EReal) else z (ix3 b f c) := by
  have h : kept x z (ix3 b f c) = if freq x (ix3 b f c) ≤ thresh x ix0 then (0 : EReal) else z (ix3 b f c) := by
    pointwise [kept]
  rw [h, thresh_eq x X hx]

/-- A magnitude at most zero means both parts are zero. -/
theorem parts_zero (b : Fin 32) (f : Fin 2049) (c : Fin 128)
    (h : Real.sqrt (reR X b f c * reR X b f c + imR X b f c * imR X b f c) ≤ 0) : reR X b f c = 0 ∧ imR X b f c = 0 := by
  have h0 := Real.sqrt_eq_zero'.1 (le_antisymm h (Real.sqrt_nonneg _))
  have hr := mul_self_nonneg (reR X b f c)
  have hi := mul_self_nonneg (imR X b f c)
  exact ⟨mul_self_eq_zero.1 (by linarith), mul_self_eq_zero.1 (by linarith)⟩

/-- The kept real parts: none at batch element 0, all elsewhere. -/
theorem kept_re (hx : ∀ i, x i = ((X i : ℝ) : EReal)) (b : Fin 32) (f : Fin 2049) (c : Fin 128) :
    kept x (re x) (ix3 b f c) = (((if (b : ℕ) = 0 then 0 else reR X b f c : ℝ)) : EReal) := by
  rw [kept_apply x X hx, freq_apply, re_apply x X hx, mag_apply x X hx]
  by_cases hb : (b : ℕ) = 0
  · simp [hb]
  · rw [if_neg hb, if_neg hb]
    split_ifs with h
    · rw [(parts_zero X b f c (by exact_mod_cast h)).1, EReal.coe_zero]
    · rfl

/-- The kept imaginary parts: none at batch element 0, all elsewhere. -/
theorem kept_im (hx : ∀ i, x i = ((X i : ℝ) : EReal)) (b : Fin 32) (f : Fin 2049) (c : Fin 128) :
    kept x (im x) (ix3 b f c) = (((if (b : ℕ) = 0 then 0 else imR X b f c : ℝ)) : EReal) := by
  rw [kept_apply x X hx, freq_apply, im_apply x X hx, mag_apply x X hx]
  by_cases hb : (b : ℕ) = 0
  · simp [hb]
  · rw [if_neg hb, if_neg hb]
    split_ifs with h
    · rw [(parts_zero X b f c (by exact_mod_cast h)).2, EReal.coe_zero]
    · rfl

/-- The seasonal part at an index: zero at batch element 0, the input elsewhere. -/
theorem season_eq (hx : ∀ i, x i = ((X i : ℝ) : EReal)) (b : Fin 32) (t : Fin 4096) (c : Fin 128) :
    season x (ix3 b t c) = if (b : ℕ) = 0 then (0 : EReal) else x (ix3 b t c) := by
  rw [season_apply x _ _ (kept_re x X hx) (kept_im x X hx)]
  by_cases hb : (b : ℕ) = 0
  · simp [hb]
  · simp only [if_neg hb]
    rw [inverse X b t c, hx]

/-- The rest at an index: the input at batch element 0, zero elsewhere. -/
theorem trend_eq (hx : ∀ i, x i = ((X i : ℝ) : EReal)) (b : Fin 32) (t : Fin 4096) (c : Fin 128) :
    trend x (ix3 b t c) = if (b : ℕ) = 0 then x (ix3 b t c) else (0 : EReal) := by
  have h : trend x (ix3 b t c) = x (ix3 b t c) - season x (ix3 b t c) := rfl
  rw [h, season_eq x X hx, hx]
  split_ifs
  · exact sub_zero _
  · rw [← EReal.coe_sub, sub_self, EReal.coe_zero]

end Cert.RefValue

end
-- ==== Proof.Finite.lean ====
/-
  The precondition read: an input of which it holds has a real number at every entry.
-/
module

public import proofs.«01_k».proof.Proof.Gen.Pre_finite
public import Idealize.ShloMosaic.Lib.Pointwise
public import Idealize.ShloMosaic.Lib.ReduceAll
public import proofs.«01_k».proof.Proof.RefTables

@[expose] public section

set_option maxRecDepth 16384

noncomputable section

namespace Cert.Finite

open Cert.Pre_finite Idealize.ShloMosaic

instance : Subsingleton S_.Idx := ⟨fun a b => funext fun k => k.elim0⟩

/-- An extended real whose absolute value is below infinity is a real number. -/
theorem real_of_abs_lt {z : EReal} (h : max z (-z) < ⊤) : z = ((z.toReal : ℝ) : EReal) := by
  induction z using EReal.rec with
  | bot => simp at h
  | coe r => rfl
  | top => simp at h

/-- Where the precondition holds, every entry of the input is a real number. -/
theorem entries (x : FVec Ideal S32x4096x128 .f32) (h : fn (F := Ideal) x = fun _ => 1#1) :
    ∀ i, x i = (((x i).toReal : ℝ) : EReal) := by
  intro i
  have h1 := Host.reduce_andi_all _ _ _ _ ix0 (congrFun h ix0) i
  have h2 : (Ideal.cmp .olt (max (x i) (-(x i))) (Ideal.ofBits .f32 0x7F800000#32) : BitVec 1) = 1#1 := h1
  rw [RefTables.word_top] at h2
  refine real_of_abs_lt ?_
  by_contra hn
  simp [Ideal.cmp, hn] at h2

end Cert.Finite

end
-- ==== Proof.Equation.lean ====
/-
  The equation: on an input whose every entry is a real number, the reference's two results are the kernel's.
-/
module

public import proofs.«01_k».proof.Proof.KernelValue
public import proofs.«01_k».proof.Proof.RefValue
public import proofs.«01_k».proof.Proof.Finite

@[expose] public section

noncomputable section

namespace Cert.Equation

open Idealize.ShloMosaic

/-- The seasonal part of the reference is the first result of the kernel. -/
theorem season (x : FVec Ideal Cert.ReferenceIdeal.S32x4096x128 .f32) (h : ∀ i, x i = (((x i).toReal : ℝ) : EReal)) :
    RefTerms.season x = KernelValue.seasonOf (F := Ideal) x := by
  funext i
  have e := RefValue.season_eq x (fun i => (x i).toReal) h (i 0) (i 1) (i 2)
  rw [← eq_ix3 i] at e
  rw [e, KernelValue.seasonOf]
  exact if_congr Iff.rfl Ideal.ofBits_zero_f32.symm rfl

/-- The rest of the reference is the second result of the kernel. -/
theorem trend (x : FVec Ideal Cert.ReferenceIdeal.S32x4096x128 .f32) (h : ∀ i, x i = (((x i).toReal : ℝ) : EReal)) :
    RefTerms.trend x = KernelValue.trendOf (F := Ideal) x := by
  funext i
  have e := RefValue.trend_eq x (fun i => (x i).toReal) h (i 0) (i 1) (i 2)
  rw [← eq_ix3 i] at e
  rw [e, KernelValue.trendOf]
  exact if_congr Iff.rfl rfl Ideal.ofBits_zero_f32.symm

end Cert.Equation

end
-- ==== Proof.lean ====
/-
  The claims, assembled: the frames of the kernel, its idealization and the reference; that the idealization changes
  nothing; and that over the extended reals, on an input with no infinite entry, the kernel's two results are the
  reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Equation
public import Idealize.ShloMosaic.Lib.Quiescent

@[expose] public section

noncomputable section

namespace Cert.Proof

open Idealize.ShloMosaic Idealize.SL.Sem

/-- The reference's frame: it ends, keeps its argument, and leaves every counter at zero. -/
theorem frame_reference : quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same frame, on the inputs of the precondition. -/
theorem frame_reference_finite : quiescent_ReferenceIdeal_pre_finite := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- On inputs with no infinite entry the kernel and the reference end with the same two results. -/
theorem equal : algebraic_KernelIdeal_ReferenceIdeal_pre_finite := by
  intro m g m' g' hpre hargs
  refine ⟨fun c => KernelValue.seasonOf (KernelValue.input m c), fun c => KernelValue.trendOf (KernelValue.input m c), ?_, ?_⟩
  · exact (θ_run _ _ _).mono
      (fun r h c => ⟨(h c).1.trans (KernelValue.final1 m c), (h c).2.1.trans (KernelValue.final2 m c), (h c).2.2⟩)
      (Cert.KernelIdeal.Value.run_blocks (F := Ideal) m g)
  · have hfin : ∀ c : Dev Cert.KernelIdeal.nD, ∀ i, KernelValue.input m c i = (((KernelValue.input m c i).toReal : ℝ) : EReal) :=
      fun c => Finite.entries _ (hpre c)
    refine (θ_run _ _ _).mono (fun r h c => ⟨(h c).1.trans ?_, (h c).2.1.trans ?_, (h c).2.2⟩)
      (Cert.ReferenceIdeal.Value.run (F := Ideal) m' g')
    · refine (RefTerms.out0_eq m' c).trans ((congrArg RefTerms.season (hargs c)).trans ?_)
      exact Equation.season (KernelValue.input m c) (hfin c)
    · refine (RefTerms.out1_eq m' c).trans ((congrArg RefTerms.trend (hargs c)).trans ?_)
      exact Equation.trend (KernelValue.input m c) (hfin c)

/-- Every claim of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_reference, frame_reference_finite, trivial, equal⟩

end Cert.Proof

end
